-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S1x1024x2048 : Shape := ⟨3, ![1, 1024, 2048]⟩
abbrev S1x2048 : Shape := ⟨2, ![1, 2048]⟩
abbrev S128x128 : Shape := ⟨2, ![128, 128]⟩
abbrev S1x128x2048 : Shape := ⟨3, ![1, 128, 2048]⟩
abbrev S128x2048 : Shape := ⟨2, ![128, 2048]⟩

abbrev nBuf : Space → Nat
  | .hbm => 2
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4x4096x2048 : Shape := ⟨3, ![4, 4096, 2048]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S_, .f32⟩
  | .hbm, ⟨3, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Column.lean ====
module

public import Idealize.ShloMosaic.Lib.ValueIdx

@[expose] public section

/-! # The running sums both programs are compared with -/

noncomputable section

namespace Cert.Cum

open Idealize.ShloMosaic Idealize.ShloMosaic.ValueIdx

/-- Column `(b, d)` of the array of 4 entries of 4096 rows and 2048 columns, read at row `k`; zero outside the array. -/
def column (X : FVec Ideal ⟨3, ![4, 4096, 2048]⟩ .f32) (b : Nat) (d : Fin 2048) (k : Nat) : EReal :=
  if h : b < 4 ∧ k < 4096 then X (ix3 ⟨b, h.1⟩ ⟨k, h.2⟩ d) else 0

/-- The cumulative sum along the rows: entry `(b, j, d)` is the sum of rows `0 … j` of column `(b, d)`. -/
def cumulative (X : FVec Ideal ⟨3, ![4, 4096, 2048]⟩ .f32) : FVec Ideal ⟨3, ![4, 4096, 2048]⟩ .f32 :=
  fun i => ∑ k ∈ Finset.range ((i 1).val + 1), column X (i 0).val (i 2) k

end Cert.Cum

end
-- ==== Proof.Chunk.lean ====
module

public import proofs.«01_k».proof.Proof.Gen.KernelIdeal.Skeleton
public import Idealize.ShloMosaic.Lib.MatmulPlain
public import Idealize.ShloMosaic.Lib.ValueLayout
public import Idealize.ShloMosaic.Lib.ValueIdx
public import Idealize.ShloMosaic.Lib.KernelVsHost

@[expose] public section

/-! # What one chunk of 128 rows computes

The kernel multiplies a chunk by the lower triangular matrix of ones: row `r` of the product is the
sum of the chunk's rows `0 … r`. The row carried from the chunks above is then added to every row, and the
last row of the product is added to the row carried on. -/

noncomputable section

namespace Cert.KernelIdeal.Cum

open Cert.KernelIdeal Cert.KernelIdeal.Gen Idealize.ShloMosaic Idealize.ShloMosaic.ValueIdx

/-- Column `l` of a block, continued by zeros below its 1024 rows. -/
def col (x : Vec Ideal S1x1024x2048 .f32) (l : Fin 2048) (k : Nat) : EReal :=
  if h : k < 1024 then x (ix3 (0 : Fin 1) ⟨k, h⟩ l) else 0

/-- The triangular matrix holds one on and below the diagonal and zero above it. -/
theorem tril_apply (r k : Fin 128) : (k0_pay10 : FVec Ideal S128x128 .f32) (ix2 r k) = if k.val ≤ r.val then (1 : EReal) else 0 := by
  have hb : ∀ a b : Fin 128, (IntOp.cmpi .sge (BitVec.ofNat 32 a.val) (BitVec.ofNat 32 b.val)) = if b.val ≤ a.val then 1#1 else 0#1 := by
    decide +kernel
  show (Scalar.sitofp .f32 ((IntOp.cmpi .sge (BitVec.ofNat 32 (0 * 128 + r.val)) (BitVec.ofNat 32 (0 * 128 + k.val))).setWidth 32) : Ideal .f32) = _
  rw [Nat.zero_mul, Nat.zero_add, Nat.zero_add, hb]
  show (((((if k.val ≤ r.val then 1#1 else 0#1 : BitVec 1).setWidth 32).toInt : ℤ) : ℝ) : EReal) = _
  rw [toInt_setWidth_bit]
  split <;> simp

/-- Row `r` of a chunk's product is the sum of the chunk's rows `0 … r`, where the chunk is the block's rows from `o` on. -/
theorem product_apply (x : Vec Ideal S1x1024x2048 .f32) (o : Nat) (ho : o + 128 ≤ 1024) (v : Vec Ideal S1x128x2048 .f32)
    (hv : ∀ (k : Fin 128) (l : Fin 2048), v (ix3 (0 : Fin 1) k l) = col x l (o + k.val)) (r : Fin 128) (l : Fin 2048) :
    (k0_pay11 v : FVec Ideal S128x2048 .f32) (ix2 r l) = ∑ k ∈ Finset.range (r.val + 1), col x l (o + k) := by
  refine (Ideal.matmul_plain_apply none (k0_pay10 : FVec Ideal S128x128 .f32) (shapeCast S128x2048 v shapeCasts_S1x128x2048_S128x2048)
    (constant S128x2048 .f32 0x00000000#32) r l).trans ?_
  have hterm : ∀ k : Fin 128, (k0_pay10 : FVec Ideal S128x128 .f32) (ix2 r k) * (shapeCast S128x2048 v shapeCasts_S1x128x2048_S128x2048) (ix2 k l)
      = (fun n : Nat => if n < r.val + 1 then col x l (o + n) else 0) k.val := by
    intro k
    rw [tril_apply, shapeCast_1ab_ab_apply, hv]
    by_cases hk : k.val ≤ r.val
    · rw [if_pos hk, one_mul]; exact (if_pos (by omega)).symm
    · rw [if_neg hk, zero_mul]; exact (if_neg (by omega)).symm
  rw [Finset.sum_congr rfl fun k _ => hterm k, Fin.sum_univ_eq_sum_range (fun n : Nat => if n < r.val + 1 then col x l (o + n) else 0) 128,
    ← Finset.sum_filter]
  have hset : (Finset.range 128).filter (fun n => n < r.val + 1) = Finset.range (r.val + 1) := by
    ext n
    have := r.isLt
    simp only [Finset.mem_filter, Finset.mem_range]
    omega
  rw [hset]
  show Ideal.ofBits .f32 0x00000000#32 + _ = _
  rw [Ideal.ofBits_zero_f32, zero_add]

end Cert.KernelIdeal.Cum

end
-- ==== Proof.Block.lean ====
module

public import proofs.«01_k».proof.Proof.Chunk
public import proofs.«01_k».proof.Proof.Gen.KernelIdeal.Value
public import Idealize.ShloMosaic.Lib.Tactic

@[expose] public section

/-! # What one block computes

A block of 1024 rows is eight chunks, each with its own triangular product. With the row `s` carried in, row `r` of
the block's result is `s` plus the block's rows `0 … r`, and the row carried out is `s` plus all 1024 rows. -/

noncomputable section

namespace Cert.KernelIdeal.Cum

open Cert.KernelIdeal Cert.KernelIdeal.Gen Idealize.ShloMosaic Idealize.ShloMosaic.ValueIdx Idealize.ShloMosaic.TcCoe Idealize.SL.Sem
open Idealize.ShloMosaic.Pipeline (Dat)

/-- The row carried past the block's first `n` rows: the row carried in, plus those rows. -/
def carried (x : Vec Ideal S1x1024x2048 .f32) (s : Vec Ideal S1x2048 .f32) (n : Nat) : Vec Ideal S1x2048 .f32 :=
  fun j => s j + ∑ k ∈ Finset.range n, col x (j 1) k

/-- The block's result: the row carried in, plus the rows down to and including this one. -/
def running (x : Vec Ideal S1x1024x2048 .f32) (s : Vec Ideal S1x2048 .f32) : Vec Ideal S1x1024x2048 .f32 :=
  fun j => s (ix2 (0 : Fin 1) (j 2)) + ∑ k ∈ Finset.range ((j 1).val + 1), col x (j 2) k

/-- The chunk of 128 rows that starts at row `o` of the block. -/
def chunk (x : Vec Ideal S1x1024x2048 .f32) (o : Nat) (inb : ∀ a, (![0, o, 0] : Fin 3 → Nat) a + S1x128x2048.size a ≤ S1x1024x2048.size a) :
    Vec Ideal S1x128x2048 .f32 :=
  View.ld x (Rect.unit (s := S1x1024x2048) ![0, o, 0] S1x128x2048.size inb)

/-- A chunk that lies in the block ends by row 1024. -/
theorem chunk_le {o : Nat} (inb : ∀ a, (![0, o, 0] : Fin 3 → Nat) a + S1x128x2048.size a ≤ S1x1024x2048.size a) : o + 128 ≤ 1024 := inb 1

/-- Row `k` of the chunk is row `o + k` of the block. -/
theorem chunk_apply (x : Vec Ideal S1x1024x2048 .f32) (o : Nat) (inb : ∀ a, (![0, o, 0] : Fin 3 → Nat) a + S1x128x2048.size a ≤ S1x1024x2048.size a)
    (k : Fin 128) (l : Fin 2048) : chunk x o inb (ix3 (0 : Fin 1) k l) = col x l (o + k.val) := by
  have ho := chunk_le inb
  unfold col
  rw [dif_pos (show o + k.val < 1024 by omega)]
  refine congrArg x (funext fun a => Fin.ext ?_)
  match a with
  | ⟨0, _⟩ => rfl
  | ⟨1, _⟩ => show o + 1 * k.val = o + k.val; omega
  | ⟨2, _⟩ => show 0 + 1 * l.val = l.val; omega

/-- Nothing is carried past no rows but the row carried in. -/
theorem carried_zero (x : Vec Ideal S1x1024x2048 .f32) (s : Vec Ideal S1x2048 .f32) : carried x s 0 = s :=
  funext fun j => by show s j + _ = s j; rw [Finset.sum_range_zero, add_zero]

/-- Adding a chunk's last product row to the row carried past the rows above it carries past the chunk. -/
theorem carried_step (x : Vec Ideal S1x1024x2048 .f32) (s : Vec Ideal S1x2048 .f32) (o : Nat)
    (inb : ∀ a, (![0, o, 0] : Fin 3 → Nat) a + S1x128x2048.size a ≤ S1x1024x2048.size a) :
    k0_pay21 (k0_pay11 (chunk x o inb)) (carried x s o) = carried x s (o + 128) := by
  funext j
  obtain ⟨u, l, rfl⟩ : ∃ (u : Fin 1) (l : Fin 2048), j = ix2 u l := ⟨j 0, j 1, eq_ix2 j⟩
  show carried x s o (ix2 u l) + extractStridedSlice S1x2048 ![127, 0] (k0_pay11 (chunk x o inb)) slices_S128x2048_o127_0_S1x2048 (ix2 u l) = _
  rw [slice2_axis0_apply 127 _ _ u l (127 : Fin 128) (by have := u.isLt; show 127 = 127 + u.val; omega),
    product_apply x o (chunk_le inb) _ (chunk_apply x o inb)]
  show s (ix2 u l) + ∑ k ∈ Finset.range o, col x l k + ∑ k ∈ Finset.range 128, col x l (o + k) = s (ix2 u l) + ∑ k ∈ Finset.range (o + 128), col x l k
  rw [Finset.sum_range_add, add_assoc]

/-- The stored chunk, the product plus the carried row, is the block's result at the chunk's rows. -/
theorem stored_chunk (x : Vec Ideal S1x1024x2048 .f32) (s : Vec Ideal S1x2048 .f32) (o : Nat)
    (inb : ∀ a, (![0, o, 0] : Fin 3 → Nat) a + S1x128x2048.size a ≤ S1x1024x2048.size a) (j : S1x128x2048.Idx) :
    k0_pay20 (k0_pay11 (chunk x o inb)) (carried x s o) j
      = running x s ((Rect.unit (s := S1x1024x2048) ![0, o, 0] S1x128x2048.size inb).emb j) := by
  obtain ⟨u, r, l, rfl⟩ : ∃ (u : Fin 1) (r : Fin 128) (l : Fin 2048), j = ix3 u r l := ⟨j 0, j 1, j 2, eq_ix3 j⟩
  have ho := chunk_le inb
  have he : (Rect.unit (s := S1x1024x2048) ![0, o, 0] S1x128x2048.size inb).emb (ix3 u r l) = ix3 (0 : Fin 1) ⟨o + r.val, by omega⟩ l := by
    refine funext fun a => Fin.ext ?_
    match a with
    | ⟨0, _⟩ => show 0 + 1 * u.val = 0; have := u.isLt; omega
    | ⟨1, _⟩ => show o + 1 * r.val = o + r.val; omega
    | ⟨2, _⟩ => show 0 + 1 * l.val = l.val; omega
  rw [he]
  refine (shapeCast_ab_1ab_apply (addf (k0_pay11 (chunk x o inb)) (broadcastTo S128x2048 (carried x s o) broadcasts_S1x2048_S128x2048)) shapeCasts_S128x2048_S1x128x2048 u r l).trans ?_
  show (k0_pay11 (chunk x o inb) : FVec Ideal S128x2048 .f32) (ix2 r l) + broadcastTo S128x2048 (carried x s o) broadcasts_S1x2048_S128x2048 (ix2 r l) = _
  rw [broadcastTo_1b_ab_apply, product_apply x o ho _ (chunk_apply x o inb)]
  show ∑ k ∈ Finset.range (r.val + 1), col x l (o + k) + (s (ix2 (0 : Fin 1) l) + ∑ k ∈ Finset.range o, col x l k)
    = s (ix2 (0 : Fin 1) l) + ∑ k ∈ Finset.range (o + r.val + 1), col x l k
  rw [add_comm, add_assoc, ← Finset.sum_range_add, Nat.add_assoc]

/-- The same store with the product and the carried row given by what they are equal to. -/
theorem stored_of_eq (x : Vec Ideal S1x1024x2048 .f32) (s : Vec Ideal S1x2048 .f32) (o : Nat)
    (inb : ∀ a, (![0, o, 0] : Fin 3 → Nat) a + S1x128x2048.size a ≤ S1x1024x2048.size a)
    (w : Vec Ideal S1x128x2048 .f32) (t : Vec Ideal S1x2048 .f32) (ht : t = carried x s o) (hw : w = k0_pay20 (k0_pay11 (chunk x o inb)) t)
    (j : S1x128x2048.Idx) : w j = running x s ((Rect.unit (s := S1x1024x2048) ![0, o, 0] S1x128x2048.size inb).emb j) := by
  subst ht; subst hw; exact stored_chunk x s o inb j

end Cert.KernelIdeal.Cum

end
-- ==== Proof.Outs.lean ====
module

public import proofs.«01_k».proof.Proof.Block

@[expose] public section

/-! # What one grid step leaves

The eight stores of a step make up the block's running sums, and its scratch ends with the row carried past the whole block.
The first step of a batch entry starts from a row of zeros, every later one from the row the step before left. -/

noncomputable section

namespace Cert.KernelIdeal.Cum

open Cert.KernelIdeal Cert.KernelIdeal.Gen Idealize.ShloMosaic Idealize.ShloMosaic.ValueIdx Idealize.ShloMosaic.TcCoe Idealize.SL.Sem
open Idealize.ShloMosaic.Pipeline (Dat)

section Carries

variable (x : Vec Ideal S1x1024x2048 .f32) (s : Vec Ideal S1x2048 .f32)

/-- Chunk `n` of the block fits it. -/
theorem chunk_inb (n : Fin 8) (a : Fin 3) : (![0, 128 * n.val, 0] : Fin 3 → Nat) a + S1x128x2048.size a ≤ S1x1024x2048.size a := by
  have := n.isLt
  match a with
  | ⟨0, _⟩ => show 0 + 1 ≤ 1; omega
  | ⟨1, _⟩ => show 128 * n.val + 128 ≤ 1024; omega
  | ⟨2, _⟩ => show 0 + 2048 ≤ 2048; omega

/-- Chunk `n`'s triangular product. -/
def prod (n : Fin 8) : FVec Ideal S128x2048 .f32 := k0_pay11 (chunk x (128 * n.val) (chunk_inb n))

/-- Carrying past chunk `n`, from a row that is the one carried past the chunks above. -/
theorem carry_next (n : Fin 8) (t : Vec Ideal S1x2048 .f32) (ht : t = carried x s (128 * n.val)) :
    k0_pay21 (prod x n) t = carried x s (128 * n.val + 128) := by
  subst ht; exact carried_step x s _ _

/-- The row carried past the first chunk … -/
theorem carry1 : k0_pay21 (prod x 0) s = carried x s 128 := carry_next x s 0 s (carried_zero x s).symm
/-- … past two … -/
theorem carry2 : k0_pay23 (prod x 0) (prod x 1) s = carried x s 256 := carry_next x s 1 _ (carry1 x s)
/-- … past three … -/
theorem carry3 : k0_pay25 (prod x 0) (prod x 1) (prod x 2) s = carried x s 384 := carry_next x s 2 _ (carry2 x s)
/-- … past four … -/
theorem carry4 : k0_pay27 (prod x 0) (prod x 1) (prod x 2) (prod x 3) s = carried x s 512 := carry_next x s 3 _ (carry3 x s)
/-- … past five … -/
theorem carry5 : k0_pay2 (prod x 4) (k0_pay27 (prod x 0) (prod x 1) (prod x 2) (prod x 3) s) = carried x s 640 := carry_next x s 4 _ (carry4 x s)
/-- … past six … -/
theorem carry6 : k0_pay4 (prod x 4) (prod x 5) (k0_pay27 (prod x 0) (prod x 1) (prod x 2) (prod x 3) s) = carried x s 768 :=
  carry_next x s 5 _ (carry5 x s)
/-- … past seven … -/
theorem carry7 : k0_pay6 (prod x 4) (prod x 5) (prod x 6) (k0_pay27 (prod x 0) (prod x 1) (prod x 2) (prod x 3) s) = carried x s 896 :=
  carry_next x s 6 _ (carry6 x s)
/-- … and past all eight, which is what the step leaves in its scratch. -/
theorem carry8 : k0_pay8 (prod x 4) (prod x 5) (prod x 6) (prod x 7) (k0_pay27 (prod x 0) (prod x 1) (prod x 2) (prod x 3) s) = carried x s 1024 :=
  (shapeCast_self _ _).trans (carry_next x s 7 _ (carry7 x s))

end Carries

/-- The row of zeros the first step stores. -/
theorem zeroRow : (k0_pay9 (F := Ideal) : Vec Ideal S1x2048 .f32) = fun _ => 0 := by
  refine (shapeCast_self _ _).trans (funext fun _ => ?_)
  show Ideal.ofBits .f32 0x00000000#32 = 0
  exact Ideal.ofBits_zero_f32

/-- The scratch is read and written whole. -/
theorem whole_off : (![0, 0] : Fin 2 → Nat) = fun _ => 0 := funext fun a => match a with | ⟨0, _⟩ => rfl | ⟨1, _⟩ => rfl

section Step

variable (c : Dev nD) (i : grid0.Coords) (arg2 : Memref sig .tc .vmem S1x1024x2048 .f32) (harg2 : arg2.IsWhole)
  (arg3 : Memref sig .tc .vmem S1x1024x2048 .f32) (harg3 : arg3.IsWhole) (arg4 : Memref sig .tc .vmem S1x2048 .f32) (harg4 : arg4.IsWhole)

/-- A later step's block. -/
theorem out_later (hc0 : ¬cond0_0 i) (x0 : Vec Ideal S1x1024x2048 .f32) (xs0 : Vec Ideal S1x2048 .f32) :
    out0_B_1 c i arg2 harg2 arg3 harg3 arg4 harg4 hc0 x0 xs0 = running x0 xs0 := by
  funext y
  unfold out0_B_1
  rw [View.read_writes_junk_eq_canon]
  refine View.canon_apply_of_pieces (running x0 xs0) _ ?_ y (cover0_B_1 c i arg2 harg2 arg3 harg3 arg4 harg4 hc0 x0 xs0 y)
  unfold kernelRun0_B
  dsimp only
  sl_unfold_words
  simp only [View.readAt_eq_ld, harg2.read_unread, harg4.read_unread]
  rw [View.ld_unit_zero (S := S1x2048) whole_off]
  simp only [List.forall_mem_cons]
  refine ⟨?_, ?_, ?_, ?_, ?_, ?_, ?_, ?_, fun _ h => absurd h List.not_mem_nil⟩
  · exact stored_of_eq x0 xs0 896 _ _ _ (carry7 x0 xs0) rfl
  · exact stored_of_eq x0 xs0 768 _ _ _ (carry6 x0 xs0) rfl
  · exact stored_of_eq x0 xs0 640 _ _ _ (carry5 x0 xs0) rfl
  · exact stored_of_eq x0 xs0 512 _ _ _ (carry4 x0 xs0) rfl
  · exact stored_of_eq x0 xs0 384 _ _ _ (carry3 x0 xs0) rfl
  · exact stored_of_eq x0 xs0 256 _ _ _ (carry2 x0 xs0) rfl
  · exact stored_of_eq x0 xs0 128 _ _ _ (carry1 x0 xs0) rfl
  · exact stored_of_eq x0 xs0 0 _ _ _ (carried_zero x0 xs0).symm rfl

/-- A later step's scratch. -/
theorem scratch_later (hc0 : ¬cond0_0 i) (x0 : Vec Ideal S1x1024x2048 .f32) (xs0 : Vec Ideal S1x2048 .f32) :
    sout0_B_0 c i arg2 harg2 arg3 harg3 arg4 harg4 hc0 x0 xs0 = carried x0 xs0 1024 := by
  unfold sout0_B_0
  rw [View.read_writes_junk_eq_canon]
  unfold kernelRun0_B
  dsimp only
  sl_unfold_words
  simp only [View.readAt_eq_ld, harg2.read_unread, harg4.read_unread]
  rw [View.canon_unit_zero (S := S1x2048) whole_off, View.ld_unit_zero (S := S1x2048) whole_off]
  exact carry8 x0 xs0

/-- The first step's block. -/
theorem out_first (hc0 : cond0_0 i) (x0 : Vec Ideal S1x1024x2048 .f32) :
    out0_A_1 c i arg2 harg2 arg3 harg3 arg4 harg4 hc0 x0 = running x0 (k0_pay9 (F := Ideal)) := by
  funext y
  unfold out0_A_1
  rw [View.read_writes_junk_eq_canon]
  refine View.canon_apply_of_pieces (running x0 (k0_pay9 (F := Ideal))) _ ?_ y (cover0_A_1 c i arg2 harg2 arg3 harg3 arg4 harg4 hc0 x0 y)
  unfold kernelRun0_A
  dsimp only
  sl_unfold_words
  simp only [View.readAt_eq_ld, harg2.read_unread, harg4.read_unread]
  rw [View.readCov_unit_zero (S := S1x2048) _ whole_off]
  simp only [List.forall_mem_cons]
  refine ⟨?_, ?_, ?_, ?_, ?_, ?_, ?_, ?_, fun _ h => absurd h List.not_mem_nil⟩
  · exact stored_of_eq x0 (k0_pay9 (F := Ideal)) 896 _ _ _ (carry7 x0 (k0_pay9 (F := Ideal))) rfl
  · exact stored_of_eq x0 (k0_pay9 (F := Ideal)) 768 _ _ _ (carry6 x0 (k0_pay9 (F := Ideal))) rfl
  · exact stored_of_eq x0 (k0_pay9 (F := Ideal)) 640 _ _ _ (carry5 x0 (k0_pay9 (F := Ideal))) rfl
  · exact stored_of_eq x0 (k0_pay9 (F := Ideal)) 512 _ _ _ (carry4 x0 (k0_pay9 (F := Ideal))) rfl
  · exact stored_of_eq x0 (k0_pay9 (F := Ideal)) 384 _ _ _ (carry3 x0 (k0_pay9 (F := Ideal))) rfl
  · exact stored_of_eq x0 (k0_pay9 (F := Ideal)) 256 _ _ _ (carry2 x0 (k0_pay9 (F := Ideal))) rfl
  · exact stored_of_eq x0 (k0_pay9 (F := Ideal)) 128 _ _ _ (carry1 x0 (k0_pay9 (F := Ideal))) rfl
  · exact stored_of_eq x0 (k0_pay9 (F := Ideal)) 0 _ _ _ (carried_zero x0 (k0_pay9 (F := Ideal))).symm rfl

/-- The first step's scratch. -/
theorem scratch_first (hc0 : cond0_0 i) (x0 : Vec Ideal S1x1024x2048 .f32) :
    sout0_A_0 c i arg2 harg2 arg3 harg3 arg4 harg4 hc0 x0 = carried x0 (k0_pay9 (F := Ideal)) 1024 := by
  unfold sout0_A_0
  rw [View.read_writes_junk_eq_canon]
  unfold kernelRun0_A
  dsimp only
  sl_unfold_words
  simp only [View.readAt_eq_ld, harg2.read_unread, harg4.read_unread]
  rw [View.canon_cons_unit_zero (S := S1x2048) whole_off, View.readCov_unit_zero (S := S1x2048) _ whole_off]
  exact carry8 x0 (k0_pay9 (F := Ideal))

end Step

end Cert.KernelIdeal.Cum

end
-- ==== Proof.Fold.lean ====
module

public import proofs.«01_k».proof.Proof.Column
public import proofs.«01_k».proof.Proof.Outs

@[expose] public section

/-! # What the array holds

Grid step `n` works on rows `1024·(n mod 4) …` of batch entry `n / 4`. By induction over the steps, the row carried past a step
is the sum of all the rows of the entry so far, so every block holds the array's cumulative sum. -/

noncomputable section

namespace Cert.KernelIdeal.Cum

open Cert.KernelIdeal Cert.KernelIdeal.Gen Idealize.ShloMosaic Idealize.ShloMosaic.ValueIdx Idealize.ShloMosaic.TcCoe Idealize.SL.Sem Cert.Cum
open Idealize.ShloMosaic.Pipeline (Dat)

variable (m : (ℓ : Loc nD τ sig) → Buf (Elt Ideal) ℓ) (c : Dev nD)

/-- The argument. -/
def arg : FVec Ideal S4x4096x2048 .f32 := m ((c : Thread nD τ).loc main_arg0)

/-- Step `t` reads block `t mod 4` of batch entry `t / 4`. -/
theorem block_index : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- Row `k` of the block step `t` reads is row `1024·(t mod 4) + k` of the array's entry `t / 4`. -/
theorem col_block (t : Fin cfg0.N) (l : Fin 2048) (k : Nat) (hk : k < 1024) :
    col (iblk m c 0 t) l k = column (arg m c) (t.val / 4) l (1024 * (t.val % 4) + k) := by
  have ht : t.val < 16 := lt_of_lt_of_eq t.isLt N_0
  obtain ⟨h0, h1, h2⟩ := block_index t
  unfold col column
  rw [dif_pos hk, dif_pos (show t.val / 4 < 4 ∧ 1024 * (t.val % 4) + k < 4096 by omega)]
  unfold iblk arg
  rw [View.read_apply]
  show V m c main_arg0 _ = m (c.tc.loc main_arg0) _
  unfold V
  congr 1
  funext a
  apply Fin.ext
  match a with
  | ⟨0, _⟩ => show win0_0.index t 0 * 1 + 1 * 0 = t.val / 4; rw [h0]; omega
  | ⟨1, _⟩ => show win0_0.index t 1 * 1024 + 1 * k = 1024 * (t.val % 4) + k; rw [h1]; omega
  | ⟨2, _⟩ => show win0_0.index t 2 * 2048 + 1 * l.val = l.val; rw [h2]; omega

/-- The row that step `n` is handed: the sum of the entry's rows above the block. -/
def above (n : Nat) : Vec Ideal S1x2048 .f32 :=
  fun j => ∑ k ∈ Finset.range (1024 * (n % 4)), column (arg m c) (n / 4) (j 1) k

/-- The rows above a block and the block's first `p` rows are the entry's first `1024·(t mod 4) + p` rows. -/
theorem above_add (t : Fin cfg0.N) (j : S1x2048.Idx) (p : Nat) (hp : p ≤ 1024) :
    above m c t.val j + ∑ k ∈ Finset.range p, col (iblk m c 0 t) (j 1) k
      = ∑ k ∈ Finset.range (1024 * (t.val % 4) + p), column (arg m c) (t.val / 4) (j 1) k := by
  rw [Finset.sum_range_add]
  refine congrArg (above m c t.val j + ·) (Finset.sum_congr rfl fun k hk => ?_)
  exact col_block m c t (j 1) k (lt_of_lt_of_le (Finset.mem_range.mp hk) hp)

/-- The first step of an entry has nothing above it. -/
theorem above_first (n : Nat) (h : n % 4 = 0) : above m c n = k0_pay9 (F := Ideal) := by
  rw [zeroRow]
  funext j
  unfold above
  rw [h]
  exact Finset.sum_range_zero _

/-- The row carried past a step is what the next step of the entry is handed. -/
theorem above_next (t : Fin cfg0.N) (n : Nat) (hn : n = t.val + 1) (h : n % 4 ≠ 0) :
    carried (iblk m c 0 t) (above m c t.val) 1024 = above m c n := by
  subst hn
  funext j
  refine (above_add m c t j 1024 le_rfl).trans ?_
  unfold above
  rw [show 1024 * (t.val % 4) + 1024 = 1024 * ((t.val + 1) % 4) by omega, show t.val / 4 = (t.val + 1) / 4 by omega]

/-- After every step, the block holds its rows' running sums and the scratch the row carried past them. -/
theorem outs_eq : ∀ (n : Nat) (hn : n < cfg0.N),
    outsAt0 m c n hn = (running (iblk m c 0 ⟨n, hn⟩) (above m c n), carried (iblk m c 0 ⟨n, hn⟩) (above m c n) 1024) := by
  intro n
  induction n with
  | zero =>
    intro hn
    refine (outsAt0_A m c ⟨0, hn⟩ rfl).trans ?_
    rw [out_first, scratch_first, above_first m c 0 rfl]
  | succ n ih =>
    intro hn
    by_cases h0 : (n + 1) % 4 = 0
    · refine (outsAt0_A m c ⟨n + 1, hn⟩ h0).trans ?_
      rw [out_first, scratch_first, above_first m c (n + 1) h0]
    · refine (outsAt0_B m c ⟨n + 1, hn⟩ h0).trans ?_
      have hp : (outsAt0 m c ((⟨n + 1, hn⟩ : Fin cfg0.N).val - 1) (Nat.lt_of_le_of_lt (Nat.sub_le _ _) hn)).2 = above m c (n + 1) :=
        (congrArg Prod.snd (ih (by omega))).trans (above_next m c ⟨n, by omega⟩ (n + 1) rfl h0)
      rw [out_later, scratch_later, hp]

/-- Step `n`'s block at row `r` is the sum of the entry's rows down to and including row `1024·(n mod 4) + r` of it. -/
theorem block_apply (n : Nat) (hn : n < cfg0.N) (r : Fin 1024) (d : Fin 2048) :
    (outsAt0 m c n hn).1 (ix3 (0 : Fin 1) r d) = ∑ k ∈ Finset.range (1024 * (n % 4) + (r.val + 1)), column (arg m c) (n / 4) d k := by
  rw [outs_eq]
  exact above_add m c ⟨n, hn⟩ (ix2 (0 : Fin 1) d) (r.val + 1) r.isLt

/-- The array after the run is the cumulative sum of the argument. -/
theorem array_eq : Cert.KernelIdeal.Value.G1 m c = cumulative (arg m c) := by
  funext i
  obtain ⟨b, j, d, rfl⟩ : ∃ (b : Fin 4) (j : Fin 4096) (d : Fin 2048), i = ix3 b j d := ⟨i 0, i 1, i 2, eq_ix3 i⟩
  have hb := b.isLt
  have hj := j.isLt
  have hd := d.isLt
  have hpt : Cert.KernelIdeal.Value.pt1Of (ix3 b j d) = 4 * b.val + j.val / 1024 := by
    show 4 * (b.val / 1 - 0) + 1 * (j.val / 1024 - 0) + 1 * (d.val / 2048 - 0) = _
    omega
  have hN : Cert.KernelIdeal.Value.pt1Of (ix3 b j d) < cfg0.N := lt_of_lt_of_eq (by rw [hpt]; omega : _ < 16) N_0.symm
  have hloc : Cert.KernelIdeal.Value.loc1Of (ix3 b j d) = ix3 (0 : Fin 1) ⟨j.val % 1024, Nat.mod_lt _ (by decide)⟩ d := by
    funext a
    apply Fin.ext
    match a with
    | ⟨0, _⟩ => show b.val % 1 = 0; omega
    | ⟨1, _⟩ => rfl
    | ⟨2, _⟩ => show d.val % 2048 = d.val; omega
  unfold Cert.KernelIdeal.Value.G1
  rw [dif_pos hN, ← Cert.KernelIdeal.Value.outsAt0_sweep m c _ hN, hloc, block_apply, hpt]
  show ∑ k ∈ Finset.range (1024 * ((4 * b.val + j.val / 1024) % 4) + (j.val % 1024 + 1)), column (arg m c) ((4 * b.val + j.val / 1024) / 4) d k
    = ∑ k ∈ Finset.range (j.val + 1), column (arg m c) b.val d k
  rw [show 1024 * ((4 * b.val + j.val / 1024) % 4) + (j.val % 1024 + 1) = j.val + 1 by omega,
    show (4 * b.val + j.val / 1024) / 4 = b.val by omega]

end Cert.KernelIdeal.Cum

end
-- ==== Proof.RefSum.lean ====
module

public import proofs.«01_k».proof.Proof.Gen.ReferenceIdeal.Run
public import proofs.«01_k».proof.Proof.Column
public import Idealize.ShloMosaic.Lib.ValueIdx
public import Idealize.ShloMosaic.PureOps.Ideal.Laws

@[expose] public section

/-! # What the reference computes

The reference's cumulative sum is a windowed sum: a window as tall as the array, ending at the row it is read at,
with zeros above the array. Row `j` of the result is therefore the sum of rows `0 … j`. -/

noncomputable section

namespace Cert.ReferenceIdeal.Cum

open Cert.ReferenceIdeal Idealize.ShloMosaic Idealize.ShloMosaic.ValueIdx Cert.Cum

/-- A left fold that adds a function of the position is the starting value plus the sum. -/
theorem foldl_add {N : Nat} (f : Fin N → EReal) (v : EReal) : (List.finRange N).foldl (fun r n => r + f n) v = v + ∑ n, f n := by
  rw [← List.foldl_map (f := f) (g := fun r a => r + a), ← List.sum_ofFn, List.ofFn_eq_map]
  generalize (List.finRange N).map f = L
  induction L generalizing v with
  | nil => simp
  | cons a L ih => rw [List.foldl_cons, ih, List.sum_cons, add_assoc]

/-- The window: one position on each side axis, 4096 on the rows. -/
abbrev Win : Shape := ⟨3, ![1, 4096, 1]⟩

/-- The window has 4096 positions. -/
theorem win_numel : Win.numel = 4096 := by decide

/-- Position `n` of the window is its row `n`. -/
theorem win_symm (n : Fin Win.numel) : Win.rowMajor.symm n = ix3 (0 : Fin 1) (n.cast win_numel) (0 : Fin 1) := by
  rw [Equiv.symm_apply_eq]
  refine Fin.ext ?_
  rw [Shape.rowMajor_val_three]
  show n.val = (0 * 4096 + n.val) * 1 + 0
  omega

/-- The terms of a window that fall above the array are zero; the others are rows `0 … j`. -/
theorem window_sum (f : Nat → EReal) (j : Nat) (hj : j ≤ 4095) :
    ∑ n ∈ Finset.range 4096, (if 4095 ≤ j + n then f (j + n - 4095) else 0) = ∑ k ∈ Finset.range (j + 1), f k := by
  rw [show 4096 = (4095 - j) + (j + 1) by omega, Finset.sum_range_add, Finset.sum_eq_zero, zero_add]
  · refine Finset.sum_congr rfl fun k _ => ?_
    rw [if_pos (by omega)]
    exact congrArg f (by omega)
  · intro n hn
    have := Finset.mem_range.mp hn
    exact if_neg (by omega)

/-- Row `j` of the windowed sum is the sum of rows `0 … j`. -/
theorem windowed (X : FVec Ideal S4x4096x2048 .f32)
    (h : S4x4096x2048.ReduceWindows ![1, 4096, 1] ![1, 1, 1] ![0, 4095, 0] ![0, 0, 0] S4x4096x2048) (b : Fin 4) (j : Fin 4096) (d : Fin 2048) :
    Ideal.hostReduceWindowAdd ![1, 4096, 1] ![1, 1, 1] ![0, 4095, 0] ![0, 0, 0] h X (0 : EReal) (ix3 b j d)
      = ∑ k ∈ Finset.range (j.val + 1), column X b.val d k := by
  have hj := j.isLt
  unfold Ideal.hostReduceWindowAdd Host.reduceWindow
  refine (foldl_add _ _).trans ?_
  rw [zero_add]
  refine (Finset.sum_congr rfl (g := fun n : Fin Win.numel =>
    (fun m : Nat => if 4095 ≤ j.val + m then column X b.val d (j.val + m - 4095) else 0) n.val) fun n _ => ?_).trans ?_
  · show _ = if 4095 ≤ j.val + n.val then column X b.val d (j.val + n.val - 4095) else 0
    have hn : n.val < 4096 := (n.cast win_numel).isLt
    have h1 : (Win.rowMajor.symm n 1).val = n.val := by rw [win_symm]; rfl
    have h0 : (Win.rowMajor.symm n 0).val = 0 := by rw [win_symm]; rfl
    have h2 : (Win.rowMajor.symm n 2).val = 0 := by rw [win_symm]; rfl
    by_cases hc : 4095 ≤ j.val + n.val
    · rw [if_pos hc]
      unfold column
      rw [dif_pos (show b.val < 4 ∧ j.val + n.val - 4095 < 4096 from ⟨b.isLt, by omega⟩), dif_pos]
      · refine congrArg X (funext fun a => Fin.ext ?_)
        match a with
        | ⟨0, _⟩ => show b.val * 1 + (Win.rowMajor.symm n 0).val - 0 = b.val; omega
        | ⟨1, _⟩ => show j.val * 1 + (Win.rowMajor.symm n 1).val - 4095 = j.val + n.val - 4095; omega
        | ⟨2, _⟩ => show d.val * 1 + (Win.rowMajor.symm n 2).val - 0 = d.val; omega
      · intro a
        match a with
        | ⟨0, _⟩ =>
          show 0 ≤ b.val * 1 + (Win.rowMajor.symm n 0).val ∧ b.val * 1 + (Win.rowMajor.symm n 0).val - 0 < 4
          have := b.isLt; omega
        | ⟨1, _⟩ =>
          show 4095 ≤ j.val * 1 + (Win.rowMajor.symm n 1).val ∧ j.val * 1 + (Win.rowMajor.symm n 1).val - 4095 < 4096
          omega
        | ⟨2, _⟩ =>
          show 0 ≤ d.val * 1 + (Win.rowMajor.symm n 2).val ∧ d.val * 1 + (Win.rowMajor.symm n 2).val - 0 < 2048
          have := d.isLt; omega
    · rw [if_neg hc, dif_neg]
      intro hin
      have h : 4095 ≤ j.val * 1 + (Win.rowMajor.symm n 1).val := (hin 1).1
      omega
  · rw [Fin.sum_univ_eq_sum_range (fun m : Nat => if 4095 ≤ j.val + m then column X b.val d (j.val + m - 4095) else 0) Win.numel, win_numel]
    exact window_sum (column X b.val d) j.val (by omega)

/-- The reference's result is the cumulative sum of its argument. -/
theorem result_eq (X : FVec Ideal S4x4096x2048 .f32) (z : FVec Ideal S_ .f32) (hz : ∀ i, z i = 0)
    (h : S4x4096x2048.ReduceWindows ![1, 4096, 1] ![1, 1, 1] ![0, 4095, 0] ![0, 0, 0] S4x4096x2048) (hu : 0 < S_.numel) :
    Host.reduceWindowAdd ![1, 4096, 1] ![1, 1, 1] ![0, 4095, 0] ![0, 0, 0] X z h hu = cumulative X := by
  funext i
  obtain ⟨b, j, d, rfl⟩ : ∃ (b : Fin 4) (j : Fin 4096) (d : Fin 2048), i = ix3 b j d := ⟨i 0, i 1, i 2, eq_ix3 i⟩
  unfold Host.reduceWindowAdd
  rw [Ideal.hostReduceWindowAdd_def, hz]
  exact windowed X h b j d

end Cert.ReferenceIdeal.Cum

end
-- ==== Proof.lean ====
/- The claims assembled. The frames are the generated ones. The value claim sets two facts side by side: the kernel's array is
   the cumulative sum of its argument (Proof/Fold.lean) and so is the reference's result (Proof/RefSum.lean). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Fold
public import proofs.«01_k».proof.Proof.RefSum

@[expose] public section

noncomputable section

namespace Cert.Proof

open Idealize.ShloMosaic Idealize.SL.Sem

/-- The reference runs to the end and leaves its argument alone; it has no semaphores. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel and the reference end with the same result: both hold the cumulative sum. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine (Cert.ReferenceIdeal.Cum.result_eq _ _ (fun _ => ?_) _ _).trans (Cert.KernelIdeal.Cum.array_eq m c).symm
  exact Ideal.ofBits_zero_f32

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
